-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_and_affine [hPre_ids_and_affine : Cert.Pre_ids_and_affine.Facts] (m : (ℓ : Loc Cert.KernelIdeal.nD Cert.KernelIdeal.τ Cert.KernelIdeal.sig) → Buf (Elt Ideal) ℓ) : Prop :=
  ∀ c : Dev Cert.KernelIdeal.nD,
    (Cert.Pre_ids_and_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_and_affine [hPre_ids_and_affine : Cert.Pre_ids_and_affine.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_and_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_ids_and_affine [hKernelIdeal : Cert.KernelIdeal.Facts] [hPre_ids_and_affine : Cert.Pre_ids_and_affine.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_and_affine m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_ids_and_affine [hReferenceIdeal : Cert.ReferenceIdeal.Facts] [hPre_ids_and_affine : Cert.Pre_ids_and_affine.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_and_affine m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_ids_and_affine [hKernelIdeal : Cert.KernelIdeal.Facts] [hReferenceIdeal : Cert.ReferenceIdeal.Facts] [hPre_ids_and_affine : Cert.Pre_ids_and_affine.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_and_affine m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_ids_and_affine : Cert.Pre_ids_and_affine.Facts),
    quiescent_Kernel (hKernel := hKernel)
    ∧ quiescent_KernelIdeal (hKernelIdeal := hKernelIdeal)
    ∧ quiescent_KernelIdeal_pre_ids_and_affine (hKernelIdeal := hKernelIdeal) (hPre_ids_and_affine := hPre_ids_and_affine)
    ∧ quiescent_ReferenceIdeal (hReferenceIdeal := hReferenceIdeal)
    ∧ quiescent_ReferenceIdeal_pre_ids_and_affine (hReferenceIdeal := hReferenceIdeal) (hPre_ids_and_affine := hPre_ids_and_affine)
    ∧ preserves_Kernel_KernelIdeal
    ∧ algebraic_KernelIdeal_ReferenceIdeal_pre_ids_and_affine (hKernelIdeal := hKernelIdeal) (hReferenceIdeal := hReferenceIdeal) (hPre_ids_and_affine := hPre_ids_and_affine)
-- ==== Pre_ids_and_affine.lean ====
abbrev S64x512 : Shape := ⟨2, ![64, 512]⟩
abbrev S30522x768 : Shape := ⟨2, ![30522, 768]⟩
abbrev S512x768 : Shape := ⟨2, ![512, 768]⟩
abbrev S2x768 : Shape := ⟨2, ![2, 768]⟩
abbrev S768 : Shape := ⟨1, ![768]⟩
abbrev S_ : Shape := ⟨0, ![]⟩

class Facts : Prop where
  bcast_S_S768 : S_.BroadcastsInDim S768 (![] : Fin 0 → Fin S768.rank)
  reducesTo_S768_S_d0 : S768.ReducesTo [0] S_
  h_S_ : 0 < S_.numel
  bcast_S_S64x512 : S_.BroadcastsInDim S64x512 (![] : Fin 0 → Fin S64x512.rank)
  reducesTo_S64x512_S_d0_1 : S64x512.ReducesTo [0, 1] S_

variable [Facts]

def fn {F : FTy → Type} [FloatOps F] (main_arg0 : IVec S64x512 32) (main_arg1 : FVec F S30522x768 .f32) (main_arg2 : FVec F S512x768 .f32) (main_arg3 : FVec F S2x768 .f32) (main_arg4 : FVec F S768 .f32) (main_arg5 : FVec F S768 .f32) : IVec S_ 1 :=
  let main_v0 : FVec F S768 .f32 := Host.absf main_arg4
  let main_cst : FVec F S_ .f32 := constant S_ .f32 0x7F800000#32
  let main_v1 : FVec F S768 .f32 := broadcastInDim S768 ![] bcast_S_S768 main_cst
  let main_v2 : IVec S768 1 := cmpf .olt main_v0 main_v1
  let main_c : IVec S_ 1 := constantI S_ 1 1#1
  let main_v3 : IVec S_ 1 := (fun x v => Host.reduce IntOp.andi x v reducesTo_S768_S_d0 h_S_) main_v2 main_c
  let main_v4 : FVec F S768 .f32 := Host.absf main_arg5
  let main_cst_0 : FVec F S_ .f32 := constant S_ .f32 0x7F800000#32
  let main_v5 : FVec F S768 .f32 := broadcastInDim S768 ![] bcast_S_S768 main_cst_0
  let main_v6 : IVec S768 1 := cmpf .olt main_v4 main_v5
  let main_c_1 : IVec S_ 1 := constantI S_ 1 1#1
  let main_v7 : IVec S_ 1 := (fun x v => Host.reduce IntOp.andi x v reducesTo_S768_S_d0 h_S_) main_v6 main_c_1
  let main_v8 : IVec S_ 1 := andi main_v3 main_v7
  let main_c_2 : IVec S_ 32 := constantI S_ 32 0#32
  let main_v9 : IVec S64x512 32 := broadcastInDim S64x512 ![] bcast_S_S64x512 main_c_2
  let main_v10 : IVec S64x512 1 := cmpi .sge main_arg0 main_v9
  let main_c_3 : IVec S_ 32 := constantI S_ 32 2#32
  let main_v11 : IVec S64x512 32 := broadcastInDim S64x512 ![] bcast_S_S64x512 main_c_3
  let main_v12 : IVec S64x512 1 := cmpi .slt main_arg0 main_v11
  let main_v13 : IVec S64x512 1 := andi main_v10 main_v12
  let main_c_4 : IVec S_ 1 := constantI S_ 1 1#1
  let main_v14 : IVec S_ 1 := (fun x v => Host.reduce IntOp.andi x v reducesTo_S64x512_S_d0_1 h_S_) main_v13 main_c_4
  let main_v15 : IVec S_ 1 := andi main_v14 main_v8
  main_v15
-- ==== Kernel.lean ====
abbrev S64x512 : Shape := ⟨2, ![64, 512]⟩
abbrev S30522x768 : Shape := ⟨2, ![30522, 768]⟩
abbrev S512x768 : Shape := ⟨2, ![512, 768]⟩
abbrev S2x768 : Shape := ⟨2, ![2, 768]⟩
abbrev S768 : Shape := ⟨1, ![768]⟩
abbrev S1x768 : Shape := ⟨2, ![1, 768]⟩
abbrev S4x16x512 : Shape := ⟨3, ![4, 16, 512]⟩
abbrev S64x512x768 : Shape := ⟨3, ![64, 512, 768]⟩
abbrev S1x16x512 : Shape := ⟨3, ![1, 16, 512]⟩
abbrev S16x512x768 : Shape := ⟨3, ![16, 512, 768]⟩
abbrev S512 : Shape := ⟨1, ![512]⟩
abbrev S512x1 : Shape := ⟨2, ![512, 1]⟩
abbrev S16x512 : Shape := ⟨2, ![16, 512]⟩
abbrev S16x512x1 : Shape := ⟨3, ![16, 512, 1]⟩
abbrev S1x512x768 : Shape := ⟨3, ![1, 512, 768]⟩

abbrev nBuf : Space → Nat
  | .hbm => 11
  | .vmem => 11
  | .smem => 0
  | _ => 0

abbrev bufTy : (tb : Table) → Fin (tcTables nBuf tb) → BufTy
  | .hbm, ⟨0, _⟩ => ⟨S64x512, .i32⟩
  | .hbm, ⟨1, _⟩ => ⟨S30522x768, .f32⟩
  | .hbm, ⟨2, _⟩ => ⟨S512x768, .f32⟩
  | .hbm, ⟨3, _⟩ => ⟨S2x768, .f32⟩
  | .hbm, ⟨4, _⟩ => ⟨S768, .f32⟩
  | .hbm, ⟨5, _⟩ => ⟨S768, .f32⟩
  | .hbm, ⟨6, _⟩ => ⟨S2x768, .f32⟩
  | .hbm, ⟨7, _⟩ => ⟨S1x768, .f32⟩
  | .hbm, ⟨8, _⟩ => ⟨S1x768, .f32⟩
  | .hbm, ⟨9, _⟩ => ⟨S4x16x512, .i32⟩
  | .hbm, ⟨10, _⟩ => ⟨S64x512x768, .f32⟩
  | .local _ .vmem, ⟨0, _⟩ => ⟨S1x16x512, .i32⟩
  | .local _ .vmem, ⟨1, _⟩ => ⟨S1x16x512, .i32⟩
  | .local _ .vmem, ⟨2, _⟩ => ⟨S2x768, .f32⟩
  | .local _ .vmem, ⟨3, _⟩ => ⟨S2x768, .f32⟩
  | .local _ .vmem, ⟨4, _⟩ => ⟨S512x768, .f32⟩
  | .local _ .vmem, ⟨5, _⟩ => ⟨S1x768, .f32⟩
  | .local _ .vmem, ⟨6, _⟩ => ⟨S1x768, .f32⟩
  | .local _ .vmem, ⟨7, _⟩ => ⟨S16x512x768, .f32⟩
  | .local _ .vmem, ⟨8, _⟩ => ⟨S16x512x768, .f32⟩
  | .local _ .vmem, ⟨9, _⟩ => ⟨S512x768, .f32⟩
  | .local _ .vmem, ⟨10, _⟩ => ⟨S512x768, .f32⟩
  | _, _ => ⟨S64x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S64x512 : Shape := ⟨2, ![64, 512]⟩
abbrev S30522x768 : Shape := ⟨2, ![30522, 768]⟩
abbrev S512x768 : Shape := ⟨2, ![512, 768]⟩
abbrev S2x768 : Shape := ⟨2, ![2, 768]⟩
abbrev S768 : Shape := ⟨1, ![768]⟩
abbrev S512 : Shape := ⟨1, ![512]⟩
abbrev S1x512 : Shape := ⟨2, ![1, 512]⟩
abbrev S_ : Shape := ⟨0, ![]⟩
abbrev S64x512x1 : Shape := ⟨3, ![64, 512, 1]⟩
abbrev S1 : Shape := ⟨1, ![1]⟩
abbrev S1x1x1 : Shape := ⟨3, ![1, 1, 1]⟩
abbrev S64x512x768 : Shape := ⟨3, ![64, 512, 768]⟩
abbrev S1x1x768 : Shape := ⟨3, ![1, 1, 768]⟩

abbrev nBuf : Space → Nat
  | .hbm => 109
  | .vmem => 0
  | .smem => 0
  | _ => 0

abbrev bufTy : (tb : Table) → Fin (tcTables nBuf tb) → BufTy
  | .hbm, ⟨0, _⟩ => ⟨S64x512, .i32⟩
  | .hbm, ⟨1, _⟩ => ⟨S30522x768, .f32⟩
  | .hbm, ⟨2, _⟩ => ⟨S512x768, .f32⟩
  | .hbm, ⟨3, _⟩ => ⟨S2x768, .f32⟩
  | .hbm, ⟨4, _⟩ => ⟨S768, .f32⟩
  | .hbm, ⟨5, _⟩ => ⟨S768, .f32⟩
  | .hbm, ⟨6, _⟩ => ⟨S512, .i32⟩
  | .hbm, ⟨7, _⟩ => ⟨S1x512, .i32⟩
  | .hbm, ⟨8, _⟩ => ⟨S64x512, .i32⟩
  | .hbm, ⟨9, _⟩ => ⟨S_, .i32⟩
  | .hbm, ⟨10, _⟩ => ⟨S64x512, .i32⟩
  | .hbm, ⟨11, _⟩ => ⟨S64x512, .i1⟩
  | .hbm, ⟨12, _⟩ => ⟨S_, .i32⟩
  | .hbm, ⟨13, _⟩ => ⟨S64x512, .i32⟩
  | .hbm, ⟨14, _⟩ => ⟨S64x512, .i32⟩
  | .hbm, ⟨15, _⟩ => ⟨S64x512, .i32⟩
  | .hbm, ⟨16, _⟩ => ⟨S64x512x1, .i32⟩
  | .hbm, ⟨17, _⟩ => ⟨S1, .i32⟩
  | .hbm, ⟨18, _⟩ => ⟨S_, .i32⟩
  | .hbm, ⟨19, _⟩ => ⟨S64x512x1, .i32⟩
  | .hbm, ⟨20, _⟩ => ⟨S64x512x1, .i1⟩
  | .hbm, ⟨21, _⟩ => ⟨S1x1x1, .i32⟩
  | .hbm, ⟨22, _⟩ => ⟨S64x512x1, .i32⟩
  | .hbm, ⟨23, _⟩ => ⟨S64x512x1, .i1⟩
  | .hbm, ⟨24, _⟩ => ⟨S64x512x1, .i1⟩
  | .hbm, ⟨25, _⟩ => ⟨S_, .i1⟩
  | .hbm, ⟨26, _⟩ => ⟨S64x512, .i1⟩
  | .hbm, ⟨27, _⟩ => ⟨S64x512x768, .f32⟩
  | .hbm, ⟨28, _⟩ => ⟨S64x512x768, .i1⟩
  | .hbm, ⟨29, _⟩ => ⟨S_, .f32⟩
  | .hbm, ⟨30, _⟩ => ⟨S64x512x768, .f32⟩
  | .hbm, ⟨31, _⟩ => ⟨S64x512x768, .f32⟩
  | .hbm, ⟨32, _⟩ => ⟨S_, .i32⟩
  | .hbm, ⟨33, _⟩ => ⟨S64x512, .i32⟩
  | .hbm, ⟨34, _⟩ => ⟨S64x512, .i1⟩
  | .hbm, ⟨35, _⟩ => ⟨S_, .i32⟩
  | .hbm, ⟨36, _⟩ => ⟨S64x512, .i32⟩
  | .hbm, ⟨37, _⟩ => ⟨S64x512, .i32⟩
  | .hbm, ⟨38, _⟩ => ⟨S64x512, .i32⟩
  | .hbm, ⟨39, _⟩ => ⟨S64x512x1, .i32⟩
  | .hbm, ⟨40, _⟩ => ⟨S1, .i32⟩
  | .hbm, ⟨41, _⟩ => ⟨S_, .i32⟩
  | .hbm, ⟨42, _⟩ => ⟨S64x512x1, .i32⟩
  | .hbm, ⟨43, _⟩ => ⟨S64x512x1, .i1⟩
  | .hbm, ⟨44, _⟩ => ⟨S1x1x1, .i32⟩
  | .hbm, ⟨45, _⟩ => ⟨S64x512x1, .i32⟩
  | .hbm, ⟨46, _⟩ => ⟨S64x512x1, .i1⟩
  | .hbm, ⟨47, _⟩ => ⟨S64x512x1, .i1⟩
  | .hbm, ⟨48, _⟩ => ⟨S_, .i1⟩
  | .hbm, ⟨49, _⟩ => ⟨S64x512, .i1⟩
  | .hbm, ⟨50, _⟩ => ⟨S64x512x768, .f32⟩
  | .hbm, ⟨51, _⟩ => ⟨S64x512x768, .i1⟩
  | .hbm, ⟨52, _⟩ => ⟨S_, .f32⟩
  | .hbm, ⟨53, _⟩ => ⟨S64x512x768, .f32⟩
  | .hbm, ⟨54, _⟩ => ⟨S64x512x768, .f32⟩
  | .hbm, ⟨55, _⟩ => ⟨S_, .i32⟩
  | .hbm, ⟨56, _⟩ => ⟨S64x512, .i32⟩
  | .hbm, ⟨57, _⟩ => ⟨S64x512, .i1⟩
  | .hbm, ⟨58, _⟩ => ⟨S_, .i32⟩
  | .hbm, ⟨59, _⟩ => ⟨S64x512, .i32⟩
  | .hbm, ⟨60, _⟩ => ⟨S64x512, .i32⟩
  | .hbm, ⟨61, _⟩ => ⟨S64x512, .i32⟩
  | .hbm, ⟨62, _⟩ => ⟨S64x512x1, .i32⟩
  | .hbm, ⟨63, _⟩ => ⟨S1, .i32⟩
  | .hbm, ⟨64, _⟩ => ⟨S_, .i32⟩
  | .hbm, ⟨65, _⟩ => ⟨S64x512x1, .i32⟩
  | .hbm, ⟨66, _⟩ => ⟨S64x512x1, .i1⟩
  | .hbm, ⟨67, _⟩ => ⟨S1x1x1, .i32⟩
  | .hbm, ⟨68, _⟩ => ⟨S64x512x1, .i32⟩
  | .hbm, ⟨69, _⟩ => ⟨S64x512x1, .i1⟩
  | .hbm, ⟨70, _⟩ => ⟨S64x512x1, .i1⟩
  | .hbm, ⟨71, _⟩ => ⟨S_, .i1⟩
  | .hbm, ⟨72, _⟩ => ⟨S64x512, .i1⟩
  | .hbm, ⟨73, _⟩ => ⟨S64x512x768, .f32⟩
  | .hbm, ⟨74, _⟩ => ⟨S64x512x768, .i1⟩
  | .hbm, ⟨75, _⟩ => ⟨S_, .f32⟩
  | .hbm, ⟨76, _⟩ => ⟨S64x512x768, .f32⟩
  | .hbm, ⟨77, _⟩ => ⟨S64x512x768, .f32⟩
  | .hbm, ⟨78, _⟩ => ⟨S64x512x768, .f32⟩
  | .hbm, ⟨79, _⟩ => ⟨S64x512x768, .f32⟩
  | .hbm, ⟨80, _⟩ => ⟨S_, .f32⟩
  | .hbm, ⟨81, _⟩ => ⟨S64x512, .f32⟩
  | .hbm, ⟨82, _⟩ => ⟨S64x512x1, .f32⟩
  | .hbm, ⟨83, _⟩ => ⟨S_, .f32⟩
  | .hbm, ⟨84, _⟩ => ⟨S64x512x1, .f32⟩
  | .hbm, ⟨85, _⟩ => ⟨S64x512x1, .f32⟩
  | .hbm, ⟨86, _⟩ => ⟨S64x512x768, .f32⟩
  | .hbm, ⟨87, _⟩ => ⟨S64x512x768, .f32⟩
  | .hbm, ⟨88, _⟩ => ⟨S64x512x768, .f32⟩
  | .hbm, ⟨89, _⟩ => ⟨S_, .f32⟩
  | .hbm, ⟨90, _⟩ => ⟨S64x512, .f32⟩
  | .hbm, ⟨91, _⟩ => ⟨S64x512x1, .f32⟩
  | .hbm, ⟨92, _⟩ => ⟨S_, .f32⟩
  | .hbm, ⟨93, _⟩ => ⟨S64x512x1, .f32⟩
  | .hbm, ⟨94, _⟩ => ⟨S64x512x1, .f32⟩
  | .hbm, ⟨95, _⟩ => ⟨S64x512x768, .f32⟩
  | .hbm, ⟨96, _⟩ => ⟨S64x512x768, .f32⟩
  | .hbm, ⟨97, _⟩ => ⟨S_, .f32⟩
  | .hbm, ⟨98, _⟩ => ⟨S64x512x1, .f32⟩
  | .hbm, ⟨99, _⟩ => ⟨S64x512x1, .f32⟩
  | .hbm, ⟨100, _⟩ => ⟨S64x512x1, .f32⟩
  | .hbm, ⟨101, _⟩ => ⟨S64x512x768, .f32⟩
  | .hbm, ⟨102, _⟩ => ⟨S64x512x768, .f32⟩
  | .hbm, ⟨103, _⟩ => ⟨S1x1x768, .f32⟩
  | .hbm, ⟨104, _⟩ => ⟨S64x512x768, .f32⟩
  | .hbm, ⟨105, _⟩ => ⟨S64x512x768, .f32⟩
  | .hbm, ⟨106, _⟩ => ⟨S1x1x768, .f32⟩
  | .hbm, ⟨107, _⟩ => ⟨S64x512x768, .f32⟩
  | .hbm, ⟨108, _⟩ => ⟨S64x512x768, .f32⟩
  | _, _ => ⟨S64x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v3 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v4 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v5 : Ref sig .tc := ⟨.hbm, 77, rfl⟩
abbrev main_v6 : Ref sig .tc := ⟨.hbm, 78, rfl⟩
abbrev main_v7 : Ref sig .tc := ⟨.hbm, 79, rfl⟩
abbrev main_cst : Ref sig .tc := ⟨.hbm, 80, rfl⟩
abbrev main_v8 : Ref sig .tc := ⟨.hbm, 81, rfl⟩
abbrev main_v9 : Ref sig .tc := ⟨.hbm, 82, rfl⟩
abbrev main_cst_0 : Ref sig .tc := ⟨.hbm, 83, rfl⟩
abbrev main_v10 : Ref sig .tc := ⟨.hbm, 84, rfl⟩
abbrev main_v11 : Ref sig .tc := ⟨.hbm, 85, rfl⟩
abbrev main_v12 : Ref sig .tc := ⟨.hbm, 86, rfl⟩
abbrev main_v13 : Ref sig .tc := ⟨.hbm, 87, rfl⟩
abbrev main_v14 : Ref sig .tc := ⟨.hbm, 88, rfl⟩
abbrev main_cst_1 : Ref sig .tc := ⟨.hbm, 89, rfl⟩
abbrev main_v15 : Ref sig .tc := ⟨.hbm, 90, rfl⟩
abbrev main_v16 : Ref sig .tc := ⟨.hbm, 91, rfl⟩
abbrev main_cst_2 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_cst_3 : Ref sig .tc := ⟨.hbm, 97, rfl⟩
abbrev main_v21 : Ref sig .tc := ⟨.hbm, 98, rfl⟩
abbrev main_v22 : Ref sig .tc := ⟨.hbm, 99, rfl⟩
abbrev main_v23 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩

abbrev nD : Nat := 1
abbrev τ : Topo := Topo.v7x

variable {F : FTy → Type} [FloatOps F]
-- ==== Proof.LayerNorm.lean ====
/-
  Layer normalization of one row of 768 extended reals, written in two ways: with a product by the reciprocal square
  root (`lnMul`, the kernel's way) and with a quotient by the square root (`lnDiv`, the reference's way). The two are
  equal on every row, infinite entries included (`lnMul_eq_lnDiv`), and their value is a real number whenever the scale
  and the shift are real numbers (`lnMul_real`). The last theorems state how a value is picked out of two by the
  expression "first plus bit times difference" (`pick_zero`, `pick_one`).
-/
module

public import Idealize.ShloMosaic.PureOps.Ideal

@[expose] public section

noncomputable section

namespace Cert.LayerNorm

open Idealize.ShloMosaic

/-- The row length 768 as both programs write it. -/
abbrev rowLen : EReal := Ideal.ofBits .f32 0x44400000#32

/-- The small positive number added to the variance. -/
abbrev eps : EReal := Ideal.ofBits .f32 0x2B8CBCCC#32

/-- The mean of a row. -/
def mean (x : Fin 768 → EReal) : EReal := Ideal.div (∑ k, x k) rowLen

/-- The variance of a row (the mean of the squared distances from the mean), plus the small positive number. -/
def spread (x : Fin 768 → EReal) : EReal := mean (fun k => (x k - mean x) * (x k - mean x)) + eps

/-- The normalized row at `h`, scaled by `g` and shifted by `b`, by a product with the reciprocal square root. -/
def lnMul (x : Fin 768 → EReal) (g b : EReal) (h : Fin 768) : EReal :=
  (x h - mean x) * Ideal.rsqrt (spread x) * g + b

/-- The normalized row at `h`, scaled by `g` and shifted by `b`, by a quotient by the square root. -/
def lnDiv (x : Fin 768 → EReal) (g b : EReal) (h : Fin 768) : EReal :=
  Ideal.div (x h - mean x) (Ideal.sqrt (spread x)) * g + b

/-- The row length is the real number 768. -/
theorem rowLen_eq : rowLen = ((768 : ℝ) : EReal) := by
  simp [rowLen, Ideal.ofBits, Ideal.ieee, -EReal.coe_mul]; norm_num

/-- The small number is a positive real number. -/
theorem eps_pos : 0 < eps := by
  simp [eps, Ideal.ofBits, Ideal.ieee, -EReal.coe_mul]

/-- A square is not negative. -/
theorem sq_nonneg (a : EReal) : 0 ≤ a * a := by
  induction a with
  | bot => simp
  | top => simp
  | coe r => rw [← EReal.coe_mul]; exact EReal.coe_nonneg.mpr (mul_self_nonneg r)

/-- A quotient by the row length is the product with the real number 1/768. -/
theorem div_rowLen (a : EReal) : Ideal.div a rowLen = a * ((768 : ℝ)⁻¹ : ℝ) := by
  rw [rowLen_eq, Ideal.div, if_neg (by norm_num), EReal.coe_inv]

/-- The mean of numbers that are not negative is not negative. -/
theorem mean_nonneg (x : Fin 768 → EReal) (hx : ∀ k, 0 ≤ x k) : 0 ≤ mean x := by
  rw [mean, div_rowLen]
  exact mul_nonneg (Finset.sum_nonneg fun k _ => hx k) (EReal.coe_nonneg.mpr (by norm_num))

/-- The variance plus the small number is positive. -/
theorem spread_pos (x : Fin 768 → EReal) : 0 < spread x :=
  lt_of_lt_of_le eps_pos (le_add_of_nonneg_left (mean_nonneg _ fun _ => sq_nonneg _))

/-- A product with the reciprocal square root of a positive number is the quotient by its square root. -/
theorem mul_rsqrt (a v : EReal) (hv : 0 < v) : a * Ideal.rsqrt v = Ideal.div a (Ideal.sqrt v) := by
  induction v with
  | bot => simp at hv
  | top => simp [Ideal.div]
  | coe r =>
    have hr : 0 < r := EReal.coe_pos.mp hv
    have hs : Real.sqrt r ≠ 0 := (Real.sqrt_pos.mpr hr).ne'
    rw [Ideal.rsqrt_coe, Ideal.sqrt_coe, if_neg hr.not_gt, if_neg hr.not_gt, if_neg hr.ne', Ideal.div,
      if_neg (by exact_mod_cast hs), EReal.coe_inv]

/-- The two ways to normalize a row agree on every row. -/
theorem lnMul_eq_lnDiv (x : Fin 768 → EReal) (g b : EReal) (h : Fin 768) : lnMul x g b h = lnDiv x g b h := by
  rw [lnMul, lnDiv, mul_rsqrt _ _ (spread_pos x)]

/-- If the square of a number is below infinity, the number is a real number. -/
theorem real_of_sq_lt (a : EReal) (ha : a * a < ⊤) : ∃ r : ℝ, a = r := by
  induction a with
  | bot => simp at ha
  | top => simp at ha
  | coe r => exact ⟨r, rfl⟩

/-- If the variance of a row is below infinity, every distance from the mean is a real number. -/
theorem dist_real (x : Fin 768 → EReal) (hs : spread x ≠ ⊤) (h : Fin 768) : ∃ r : ℝ, x h - mean x = r := by
  refine real_of_sq_lt _ (lt_top_iff_ne_top.mpr fun ht => hs ?_)
  have hle : (x h - mean x) * (x h - mean x) ≤ ∑ k, (x k - mean x) * (x k - mean x) :=
    Finset.single_le_sum (f := fun k => (x k - mean x) * (x k - mean x)) (fun k _ => sq_nonneg _) (Finset.mem_univ h)
  rw [ht, top_le_iff] at hle
  rw [spread, mean, hle, div_rowLen, EReal.top_mul_coe_of_pos (by norm_num)]
  exact EReal.top_add_of_ne_bot (ne_of_gt (lt_of_le_of_lt bot_le eps_pos))

/-- The normalized entry of a row, before scale and shift, is a real number. -/
theorem normed_real (x : Fin 768 → EReal) (h : Fin 768) : ∃ r : ℝ, (x h - mean x) * Ideal.rsqrt (spread x) = r := by
  by_cases hs : spread x = ⊤
  · exact ⟨0, by rw [hs, Ideal.rsqrt_top, mul_zero, EReal.coe_zero]⟩
  · obtain ⟨d, hd⟩ := dist_real x hs h
    have hp := spread_pos x
    generalize spread x = v at hs hp
    induction v with
    | bot => simp at hp
    | top => exact absurd rfl hs
    | coe r =>
      have hr : 0 < r := EReal.coe_pos.mp hp
      exact ⟨d * (Real.sqrt r)⁻¹, by
        rw [hd, Ideal.rsqrt_coe, if_neg hr.not_gt, if_neg hr.ne', EReal.coe_mul]⟩

/-- With a real scale and a real shift the layer normalization of any row is a real number. -/
theorem lnMul_real (x : Fin 768 → EReal) (g b : ℝ) (h : Fin 768) : ∃ r : ℝ, lnMul x g b h = r := by
  obtain ⟨n, hn⟩ := normed_real x h
  exact ⟨n * g + b, by rw [lnMul, hn, EReal.coe_add, EReal.coe_mul]⟩

/-- "First plus zero times the difference" is the first value. -/
theorem pick_zero (a d : EReal) : a + ((0 : ℝ) : EReal) * d = a := by
  rw [EReal.coe_zero, zero_mul, add_zero]

/-- "First plus one times the difference" is the second value, the two values being real numbers. -/
theorem pick_one (a b : ℝ) : (a : EReal) + ((1 : ℝ) : EReal) * ((b : EReal) - (a : EReal)) = b := by
  rw [← EReal.coe_sub, ← EReal.coe_mul, ← EReal.coe_add]
  congr 1; ring

end Cert.LayerNorm

end
-- ==== Proof.Payload.lean ====
/-
  What the kernel's body computes, read at an index: the two layer normalizations it keeps in scratch and the block it
  writes back.
-/
module

public import proofs.«01_k».proof.Proof.LayerNorm
public import proofs.«01_k».proof.Proof.Gen.KernelIdeal.Skeleton
public import Idealize.ShloMosaic.Lib.Pointwise

@[expose] public section

noncomputable section

namespace Cert.KernelIdeal.Hand

open Idealize.ShloMosaic Idealize.SL.Sem Cert.LayerNorm
open Cert.KernelIdeal Cert.KernelIdeal.Gen

/-- Row `r` of the two word embeddings plus the two token type embeddings, plus position `s`: the row the kernel
    normalizes. -/
def embRow (w t : FVec Ideal S2x768 .f32) (p : FVec Ideal S512x768 .f32) (r : Fin 2) (s : Fin 512) (k : Fin 768) : EReal :=
  w (ix2 r k) + t (ix2 r k) + p (ix2 s k)

/-- The first scratch array: the layer normalization of the rows of token id 0. -/
theorem pay7_apply (w t : FVec Ideal S2x768 .f32) (g b : FVec Ideal S1x768 .f32) (p : FVec Ideal S512x768 .f32)
    (s : Fin 512) (h : Fin 768) :
    k0_pay7 (F := Ideal) w t g b p (ix2 s h) = lnMul (embRow w t p 0 s) (g (ix2 0 h)) (b (ix2 0 h)) h := by
  pointwise [k0_pay7, k0_pay4, k0_pay5, k0_pay6, lnMul, spread, mean, embRow]

/-- The second scratch array: the layer normalization of the rows of token id 1, less what `v` holds. -/
theorem pay2_apply (w t : FVec Ideal S2x768 .f32) (g b : FVec Ideal S1x768 .f32) (p v : FVec Ideal S512x768 .f32)
    (s : Fin 512) (h : Fin 768) :
    k0_pay2 (F := Ideal) (k0_pay5 g) (k0_pay6 b) v (k0_pay8 w t p) (k0_pay9 w t p) (ix2 s h)
      = lnMul (embRow w t p 1 s) (g (ix2 0 h)) (b (ix2 0 h)) h - v (ix2 s h) := by
  pointwise [k0_pay2, k0_pay8, k0_pay9, k0_pay4, k0_pay5, k0_pay6, lnMul, spread, mean, embRow]

/-- The block written back: the first scratch array plus the token id times the second. -/
theorem pay3_apply (ids : IVec S1x16x512 32) (v d : FVec Ideal S512x768 .f32) (n : Fin 16) (s : Fin 512) (h : Fin 768) :
    k0_pay3 (F := Ideal) ids v d (ix3 n s h) = v (ix2 s h) + (((ids (ix3 0 n s)).toInt : ℝ) : EReal) * d (ix2 s h) := by
  pointwise [k0_pay3]
  rfl

end Cert.KernelIdeal.Hand

end
-- ==== Proof.Body.lean ====
/-
  What the kernel's body leaves at each of its four grid points: in the output block, and in the two scratch arrays
  that it carries from point to point.
-/
module

public import proofs.«01_k».proof.Proof.Gen.KernelIdeal.Frame
public import Idealize.ShloMosaic.Lib.Pipeline.Value
public import Idealize.ShloMosaic.Lib.Tactic

@[expose] public section

noncomputable section

namespace Cert.KernelIdeal.Hand

open Idealize.ShloMosaic Idealize.ShloMosaic.TcCoe Idealize.SL.Sem
open Cert.KernelIdeal Cert.KernelIdeal.Gen

variable {F : FTy → Type} [FloatOps F]

/-- The two offsets of a whole rank-2 access are zero. -/
theorem off2 : (![0, 0] : Fin 2 → Nat) = fun _ => 0 := funext fun a => by fin_cases a <;> rfl

/-- The three offsets of a whole rank-3 access are zero. -/
theorem off3 : (![0, 0, 0] : Fin 3 → Nat) = fun _ => 0 := funext fun a => by fin_cases a <;> rfl

/-- The first scratch array of the first point: the layer normalization of the rows of token id 0. -/
abbrev norm0 (w t : Vec F S2x768 .f32) (p : Vec F S512x768 .f32) (g b : Vec F S1x768 .f32) : Vec F S512x768 .f32 :=
  k0_pay7 w t g b p

/-- The second scratch array of the first point: the layer normalization of the rows of token id 1 less the first. -/
abbrev norm10 (w t : Vec F S2x768 .f32) (p : Vec F S512x768 .f32) (g b : Vec F S1x768 .f32) : Vec F S512x768 .f32 :=
  k0_pay2 (k0_pay5 g) (k0_pay6 b) (k0_pay7 w t g b p) (k0_pay8 w t p) (k0_pay9 w t p)

section Cases

variable (c : Dev nD) (i : grid0.Coords) (a1 : Memref sig .tc .vmem S1x16x512 .i32) (h1 : a1.IsWhole)
  (a2 : Memref sig .tc .vmem S2x768 .f32) (h2 : a2.IsWhole) (a3 : Memref sig .tc .vmem S2x768 .f32) (h3 : a3.IsWhole)
  (a4 : Memref sig .tc .vmem S512x768 .f32) (h4 : a4.IsWhole) (a5 : Memref sig .tc .vmem S1x768 .f32) (h5 : a5.IsWhole)
  (a6 : Memref sig .tc .vmem S1x768 .f32) (h6 : a6.IsWhole) (a7 : Memref sig .tc .vmem S16x512x768 .f32) (h7 : a7.IsWhole)
  (a8 : Memref sig .tc .vmem S512x768 .f32) (h8 : a8.IsWhole) (a9 : Memref sig .tc .vmem S512x768 .f32) (h9 : a9.IsWhole)
  (ids : Vec F S1x16x512 .i32) (w t : Vec F S2x768 .f32) (p : Vec F S512x768 .f32) (g b : Vec F S1x768 .f32)

/-- At a later point the output block is made from the token ids and the two scratch arrays as they are. -/
theorem out_later (hc : ¬cond0_0 i) (v d : Vec F S512x768 .f32) :
    out0_B_6 c i a1 h1 a2 h2 a3 h3 a4 h4 a5 h5 a6 h6 a7 h7 a8 h8 a9 h9 hc ids w t p g b v d = k0_pay3 ids v d := by
  unfold out0_B_6
  rw [View.read_writes_eq_canon _ _ _ (cover0_B_6 c i a1 h1 a2 h2 a3 h3 a4 h4 a5 h5 a6 h6 a7 h7 a8 h8 a9 h9 hc ids w t p g b v d)]
  unfold kernelRun0_B
  dsimp only
  sl_unfold_words
  rw [View.canon_unit_zero (S := S16x512x768) off3]
  simp only [View.readAt_eq_ld, h1.read_unread, h8.read_unread, h9.read_unread, View.ld_unit_zero (S := S1x16x512) off3,
    View.ld_unit_zero (S := S512x768) off2]

/-- The first point leaves the rows of token id 0 in the first scratch array. -/
theorem scratch0_first (hc : cond0_0 i) :
    sout0_A_0 c i a1 h1 a2 h2 a3 h3 a4 h4 a5 h5 a6 h6 a7 h7 a8 h8 a9 h9 hc ids w t p g b = norm0 w t p g b := by
  unfold sout0_A_0
  rw [View.read_writes_eq_canon _ _ _ (scover0_A_0 c i a1 h1 a2 h2 a3 h3 a4 h4 a5 h5 a6 h6 a7 h7 a8 h8 a9 h9 hc ids w t p g b)]
  unfold kernelRun0_A
  dsimp only
  sl_unfold_words
  rw [View.canon_unit_zero (S := S512x768) off2]
  unfold k0_pay1
  simp only [View.readAt_eq_ld, h2.read_unread, h3.read_unread, h4.read_unread, h5.read_unread, h6.read_unread,
    View.ld_unit_zero (S := S2x768) off2, View.ld_unit_zero (S := S512x768) off2, View.ld_unit_zero (S := S1x768) off2,
    shapeCast_self]

/-- The first point leaves the difference of the rows in the second scratch array. -/
theorem scratch1_first (hc : cond0_0 i) :
    sout0_A_1 c i a1 h1 a2 h2 a3 h3 a4 h4 a5 h5 a6 h6 a7 h7 a8 h8 a9 h9 hc ids w t p g b = norm10 w t p g b := by
  unfold sout0_A_1
  rw [View.read_writes_eq_canon _ _ _ (scover0_A_1 c i a1 h1 a2 h2 a3 h3 a4 h4 a5 h5 a6 h6 a7 h7 a8 h8 a9 h9 hc ids w t p g b)]
  unfold kernelRun0_A
  dsimp only
  sl_unfold_words
  rw [View.canon_unit_zero (S := S512x768) off2]
  simp only [View.readAt_eq_ld, h2.read_unread, h3.read_unread, h4.read_unread, h5.read_unread, h6.read_unread,
    View.ld_unit_zero (S := S2x768) off2, View.ld_unit_zero (S := S512x768) off2, View.ld_unit_zero (S := S1x768) off2]

/-- At the first point the output block is made from the token ids and the two scratch arrays just stored. -/
theorem out_first (hc : cond0_0 i) :
    out0_A_6 c i a1 h1 a2 h2 a3 h3 a4 h4 a5 h5 a6 h6 a7 h7 a8 h8 a9 h9 hc ids w t p g b
      = k0_pay3 ids (norm0 w t p g b) (norm10 w t p g b) := by
  unfold out0_A_6
  rw [View.read_writes_eq_canon _ _ _ (cover0_A_6 c i a1 h1 a2 h2 a3 h3 a4 h4 a5 h5 a6 h6 a7 h7 a8 h8 a9 h9 hc ids w t p g b)]
  unfold kernelRun0_A
  dsimp only
  sl_unfold_words
  rw [View.canon_unit_zero (S := S16x512x768) off3]
  simp only [View.readCov_unit_zero (S := S512x768) _ off2]
  unfold k0_pay1
  simp only [View.readAt_eq_ld, h1.read_unread, h2.read_unread, h3.read_unread, h4.read_unread, h5.read_unread, h6.read_unread,
    View.ld_unit_zero (S := S1x16x512) off3, View.ld_unit_zero (S := S2x768) off2, View.ld_unit_zero (S := S512x768) off2,
    View.ld_unit_zero (S := S1x768) off2, shapeCast_self]

end Cases

variable (m : (ℓ : Loc nD τ sig) → Buf (Elt F) ℓ)

/-- After every point the two scratch arrays hold what the first point left, and the output block is made from the
    point's token ids and these two arrays. -/
theorem outs_eq (c : Dev nD) : ∀ (n : ℕ) (h : n < cfg0.N), outsAt0 m c n h =
    (let o : Fin cfg0.N := ⟨0, Nat.lt_of_le_of_lt (Nat.zero_le _) h⟩
     let v := norm0 (iblk m c 1 o) (iblk m c 2 o) (iblk m c 3 o) (iblk m c 4 o) (iblk m c 5 o)
     let d := norm10 (iblk m c 1 o) (iblk m c 2 o) (iblk m c 3 o) (iblk m c 4 o) (iblk m c 5 o)
     (k0_pay3 (iblk m c 0 ⟨n, h⟩) v d, v, d))
  | 0, h => by
    rw [outsAt0_A m c ⟨0, h⟩ rfl, out_first, scratch0_first, scratch1_first]
  | n + 1, h => by
    have hN : cfg0.N = 4 := N_0
    have hB : ¬(⟨n + 1, h⟩ : Fin cfg0.N).val % 4 = 0 := by dsimp only; omega
    rw [outsAt0_B m c ⟨n + 1, h⟩ hB, out_later]
    unfold sout0_B_0 sout0_B_1
    have ih := outs_eq c n (Nat.lt_of_succ_lt h)
    show (k0_pay3 _ (outsAt0 m c n _).2.1 (outsAt0 m c n _).2.2, (outsAt0 m c n _).2.1, (outsAt0 m c n _).2.2) = _
    rw [ih]

end Cert.KernelIdeal.Hand

end
-- ==== Proof.KernelValue.lean ====
/-
  The kernel's result array as a function of its arguments: entry `(b, s, h)` is the layer normalization of the row of
  token id 0 at position `s` plus the token id at `(b, s)` times the difference of the two layer normalizations.
-/
module

public import proofs.«01_k».proof.Proof.Payload
public import proofs.«01_k».proof.Proof.Body
public import proofs.«01_k».proof.Proof.Gen.KernelIdeal.Value
public import Idealize.ShloMosaic.Lib.StableHlo.Run

@[expose] public section

noncomputable section

namespace Cert.KernelIdeal.Hand

open Idealize.ShloMosaic Idealize.ShloMosaic.TcCoe Idealize.SL.Sem Cert.LayerNorm
open Cert.KernelIdeal Cert.KernelIdeal.Gen

section Arrays

variable {F : FTy → Type} [FloatOps F]
variable (m : (ℓ : Loc nD τ sig) → Buf (Elt F) ℓ)

/-- The kernel finds the first two rows of the word table in its second operand. -/
theorem V_word (c : Dev nD) :
    V m c main_v0 = extractStridedSlice S2x768 ![0, 0] (m ((c : Thread nD τ).loc main_arg1)) slices_S30522x768_S2x768_0_0 := by
  unfold V hostOps0
  after_results_simp
  try rfl

/-- The kernel finds gamma as one row in its fifth operand. -/
theorem V_gamma (c : Dev nD) :
    V m c main_v1 = shapeCast S1x768 (m ((c : Thread nD τ).loc main_arg4)) shapeCasts_S768_S1x768 := by
  unfold V hostOps0
  after_results_simp
  try rfl

/-- The kernel finds beta as one row in its sixth operand. -/
theorem V_beta (c : Dev nD) :
    V m c main_v2 = shapeCast S1x768 (m ((c : Thread nD τ).loc main_arg5)) shapeCasts_S768_S1x768 := by
  unfold V hostOps0
  after_results_simp
  try rfl

/-- The kernel finds the token ids, sixteen batches to a block, in its first operand. -/
theorem V_ids (c : Dev nD) :
    V m c main_v3 = shapeCast S4x16x512 (m ((c : Thread nD τ).loc main_arg0)) shapeCasts_S64x512_S4x16x512 := by
  unfold V hostOps0
  after_results_simp
  try rfl

/-- The block of word rows is the whole operand at every point. -/
theorem block_word (c : Dev nD) (t : Fin cfg0.N) : iblk m c 1 t = V m c main_v0 := by
  have hz : (fun a => win0_1.index t a * main_v0.ty.shape.size a) = fun _ => 0 := by
    rcases fin_N0 t with rfl | rfl | rfl | rfl <;> (funext a; fin_cases a <;> decide)
  exact Memref.read_access_unit_zero (Elt F) main_v0 hz (fun a => by rw [congrFun hz a]; simp) _

/-- The block of token type rows is the whole table at every point. -/
theorem block_tok (c : Dev nD) (t : Fin cfg0.N) : iblk m c 2 t = V m c main_arg3 := by
  have hz : (fun a => win0_2.index t a * main_arg3.ty.shape.size a) = fun _ => 0 := by
    rcases fin_N0 t with rfl | rfl | rfl | rfl <;> (funext a; fin_cases a <;> decide)
  exact Memref.read_access_unit_zero (Elt F) main_arg3 hz (fun a => by rw [congrFun hz a]; simp) _

/-- The block of position rows is the whole table at every point. -/
theorem block_pos (c : Dev nD) (t : Fin cfg0.N) : iblk m c 3 t = V m c main_arg2 := by
  have hz : (fun a => win0_3.index t a * main_arg2.ty.shape.size a) = fun _ => 0 := by
    rcases fin_N0 t with rfl | rfl | rfl | rfl <;> (funext a; fin_cases a <;> decide)
  exact Memref.read_access_unit_zero (Elt F) main_arg2 hz (fun a => by rw [congrFun hz a]; simp) _

/-- The block of gamma is the whole row at every point. -/
theorem block_gamma (c : Dev nD) (t : Fin cfg0.N) : iblk m c 4 t = V m c main_v1 := by
  have hz : (fun a => win0_4.index t a * main_v1.ty.shape.size a) = fun _ => 0 := by
    rcases fin_N0 t with rfl | rfl | rfl | rfl <;> (funext a; fin_cases a <;> decide)
  exact Memref.read_access_unit_zero (Elt F) main_v1 hz (fun a => by rw [congrFun hz a]; simp) _

/-- The block of beta is the whole row at every point. -/
theorem block_beta (c : Dev nD) (t : Fin cfg0.N) : iblk m c 5 t = V m c main_v2 := by
  have hz : (fun a => win0_5.index t a * main_v2.ty.shape.size a) = fun _ => 0 := by
    rcases fin_N0 t with rfl | rfl | rfl | rfl <;> (funext a; fin_cases a <;> decide)
  exact Memref.read_access_unit_zero (Elt F) main_v2 hz (fun a => by rw [congrFun hz a]; simp) _

/-- At point `q` the block of token ids is the operand's slice `q`. -/
theorem block_ids (c : Dev nD) (q : Fin 4) (t : Fin cfg0.N) (ht : t.val = q.val) (n : Fin 16) (s : Fin 512) :
    (iblk m c 0 t : Vec F S1x16x512 .i32) (ix3 0 n s) = (V m c main_v3 : Vec F S4x16x512 .i32) (ix3 q n s) := by
  have hi : win0_0.index t = ![q.val, 0, 0] := by
    rw [← ht]
    rcases fin_N0 t with rfl | rfl | rfl | rfl <;> (funext a; fin_cases a <;> decide)
  unfold iblk
  rw [View.read_apply]
  show V m c main_v3 _ = V m c main_v3 _
  congr 1
  funext a
  refine Fin.ext ?_
  match a with
  | ⟨0, _⟩ =>
    show win0_0.index t 0 * 1 + 1 * 0 = q.val
    rw [hi]; simp
  | ⟨1, _⟩ =>
    show win0_0.index t 1 * 16 + 1 * n.val = n.val
    rw [hi]; simp
  | ⟨2, _⟩ =>
    show win0_0.index t 2 * 512 + 1 * s.val = s.val
    rw [hi]; simp

end Arrays

variable (m : (ℓ : Loc nD τ sig) → Buf (Elt Ideal) ℓ)

/-- Row `r` of the word table, plus row `r` of the token type table, plus row `s` of the position table. -/
def row (W : FVec Ideal S30522x768 .f32) (T : FVec Ideal S2x768 .f32) (P : FVec Ideal S512x768 .f32) (r : Fin 2) (s : Fin 512)
    (k : Fin 768) : EReal :=
  W (ix2 (⟨r.val, by omega⟩ : Fin 30522) k) + T (ix2 r k) + P (ix2 s k)

/-- The layer normalization of that row at `h`. -/
def normed (W : FVec Ideal S30522x768 .f32) (T : FVec Ideal S2x768 .f32) (P : FVec Ideal S512x768 .f32) (g b : FVec Ideal S768 .f32)
    (r : Fin 2) (s : Fin 512) (h : Fin 768) : EReal :=
  lnMul (row W T P r s) (g (ix1 h)) (b (ix1 h)) h

/-- The rows the kernel normalizes are these rows. -/
theorem embRow_eq (c : Dev nD) (r : Fin 2) (s : Fin 512) :
    embRow (V m c main_v0) (V m c main_arg3) (V m c main_arg2) r s
      = row (m ((c : Thread nD τ).loc main_arg1)) (m ((c : Thread nD τ).loc main_arg3)) (m ((c : Thread nD τ).loc main_arg2)) r s := by
  funext k
  rw [V_word, V_main_arg2, V_main_arg3]
  pointwise [embRow, row]

/-- Gamma's row at `h` is gamma at `h`. -/
theorem gamma_apply (c : Dev nD) (h : Fin 768) :
    (V m c main_v1 : FVec Ideal S1x768 .f32) (ix2 0 h) = (m ((c : Thread nD τ).loc main_arg4) : FVec Ideal S768 .f32) (ix1 h) := by
  rw [V_gamma]
  pointwise

/-- Beta's row at `h` is beta at `h`. -/
theorem beta_apply (c : Dev nD) (h : Fin 768) :
    (V m c main_v2 : FVec Ideal S1x768 .f32) (ix2 0 h) = (m ((c : Thread nD τ).loc main_arg5) : FVec Ideal S768 .f32) (ix1 h) := by
  rw [V_beta]
  pointwise

/-- Sixty-four rows cut into four slices of sixteen: row `b` is place `b % 16` of slice `b / 16`. -/
theorem slice_apply (x : IVec S64x512 32) (hc : S64x512.ShapeCasts S4x16x512) (b : Fin 64) (s : Fin 512) :
    shapeCast S4x16x512 x hc (ix3 (⟨b.val / 16, by omega⟩ : Fin 4) (⟨b.val % 16, by omega⟩ : Fin 16) s) = x (ix2 b s) := by
  refine shapeCast_apply x hc _ _ ?_
  rw [rowMajor_val2 _ 512 rfl, rowMajor_val3 _ 8192 512 rfl rfl]
  show b.val * 512 + s.val = b.val / 16 * 8192 + b.val % 16 * 512 + s.val
  omega

/-- Place `n` of slice `q` of the token ids is batch `16 q + n`. -/
theorem ids_apply (c : Dev nD) (b : Fin 64) (s : Fin 512) :
    (V m c main_v3 : IVec S4x16x512 32) (ix3 (⟨b.val / 16, by omega⟩ : Fin 4) (⟨b.val % 16, by omega⟩ : Fin 16) s)
      = (m ((c : Thread nD τ).loc main_arg0) : IVec S64x512 32) (ix2 b s) := by
  rw [V_ids]
  exact slice_apply _ _ b s

/-- THE KERNEL'S RESULT at `(b, s, h)`. -/
theorem result_apply (c : Dev nD) (b : Fin 64) (s : Fin 512) (h : Fin 768) :
    (Value.G6 m c : FVec Ideal S64x512x768 .f32) (ix3 b s h)
      = normed (m ((c : Thread nD τ).loc main_arg1)) (m ((c : Thread nD τ).loc main_arg3)) (m ((c : Thread nD τ).loc main_arg2))
          (m ((c : Thread nD τ).loc main_arg4)) (m ((c : Thread nD τ).loc main_arg5)) 0 s h
        + ((((m ((c : Thread nD τ).loc main_arg0) : IVec S64x512 32) (ix2 b s)).toInt : ℝ) : EReal)
          * (normed (m ((c : Thread nD τ).loc main_arg1)) (m ((c : Thread nD τ).loc main_arg3)) (m ((c : Thread nD τ).loc main_arg2))
              (m ((c : Thread nD τ).loc main_arg4)) (m ((c : Thread nD τ).loc main_arg5)) 1 s h
            - normed (m ((c : Thread nD τ).loc main_arg1)) (m ((c : Thread nD τ).loc main_arg3)) (m ((c : Thread nD τ).loc main_arg2))
              (m ((c : Thread nD τ).loc main_arg4)) (m ((c : Thread nD τ).loc main_arg5)) 0 s h) := by
  have hb : b.val / 16 < 4 := by omega
  have hpt : Value.pt6Of (ix3 b s h) = b.val / 16 := by
    show 1 * (b.val / 16 - 0) + 1 * (s.val / 512 - 0) + 1 * (h.val / 768 - 0) = _
    omega
  have hN : cfg0.N = 4 := N_0
  have hlt : Value.pt6Of (ix3 b s h) < cfg0.N := by rw [hpt, hN]; exact hb
  have hloc : Value.loc6Of (ix3 b s h) = ix3 (⟨b.val % 16, by omega⟩ : Fin 16) s h := by
    funext a
    refine Fin.ext ?_
    match a with
    | ⟨0, _⟩ => rfl
    | ⟨1, _⟩ => exact Nat.mod_eq_of_lt s.isLt
    | ⟨2, _⟩ => exact Nat.mod_eq_of_lt h.isLt
  have hG : Value.G6 m c (ix3 b s h) = (outsAt0 m c (Value.pt6Of (ix3 b s h)) hlt).1 (Value.loc6Of (ix3 b s h)) := by
    rw [Value.outsAt0_sweep]
    exact dif_pos hlt
  refine hG.trans ?_
  rw [outs_eq, hloc]
  dsimp only
  rw [pay3_apply, block_ids m c (⟨b.val / 16, hb⟩ : Fin 4) _ hpt, ids_apply]
  unfold norm0 norm10
  rw [pay2_apply, pay7_apply, block_word, block_tok, block_pos, block_gamma, block_beta, embRow_eq, embRow_eq, gamma_apply, beta_apply]
  rfl

end Cert.KernelIdeal.Hand

end
-- ==== Proof.RefValue.lean ====
/-
  The reference's result as a function of its arguments. Each of its three table lookups reads the row of the table that
  the index names (`lookup_apply`); the rest is one layer normalization per batch and position (`normOf_apply`).
-/
module

public import proofs.«01_k».proof.Proof.LayerNorm
public import proofs.«01_k».proof.Proof.Gen.ReferenceIdeal.Run
public import Idealize.ShloMosaic.Lib.ReduceAll
public import Idealize.ShloMosaic.Lib.Pointwise

@[expose] public section

noncomputable section

namespace Cert.ReferenceIdeal.Hand

open Idealize.ShloMosaic Idealize.ShloMosaic.TcCoe Idealize.SL.Sem Cert.LayerNorm
open Cert.ReferenceIdeal Cert.ReferenceIdeal.Gen

section Norm

/-- The mean over the last axis, kept as an axis of length one. -/
abbrev meanOf (e : FVec Ideal S64x512x768 .f32) : FVec Ideal S64x512x1 .f32 :=
  Host.divf (broadcastInDim S64x512x1 ![0, 1] bcast_S64x512_S64x512x1_0_1 (Host.reduceAdd e (constant S_ .f32 0x00000000#32) reducesTo_S64x512x768_S64x512_d2 h_S_)) (broadcastInDim S64x512x1 ![] bcast_S_S64x512x1 (constant S_ .f32 0x44400000#32))

/-- The distance from the mean. -/
abbrev distOf (e : FVec Ideal S64x512x768 .f32) : FVec Ideal S64x512x768 .f32 :=
  subf e (broadcastInDim S64x512x768 ![0, 1, 2] bcast_S64x512x1_S64x512x768_0_1_2 (meanOf e))

/-- The reference's layer normalization of the array of embeddings. -/
abbrev normOf (e : FVec Ideal S64x512x768 .f32) (g b : FVec Ideal S768 .f32) : FVec Ideal S64x512x768 .f32 :=
  addf (mulf (Host.divf (distOf e) (broadcastInDim S64x512x768 ![0, 1, 2] bcast_S64x512x1_S64x512x768_0_1_2 (Host.sqrt (addf (meanOf (mulf (distOf e) (distOf e))) (broadcastInDim S64x512x1 ![] bcast_S_S64x512x1 (constant S_ .f32 0x2B8CBCCC#32)))))) (broadcastInDim S64x512x768 ![0, 1, 2] bcast_S1x1x768_S64x512x768_0_1_2 (broadcastInDim S1x1x768 ![2] bcast_S768_S1x1x768_2 g))) (broadcastInDim S64x512x768 ![0, 1, 2] bcast_S1x1x768_S64x512x768_0_1_2 (broadcastInDim S1x1x768 ![2] bcast_S768_S1x1x768_2 b))

/-- It is the layer normalization of each row. -/
theorem normOf_apply (e : FVec Ideal S64x512x768 .f32) (g b : FVec Ideal S768 .f32) (n : Fin 64) (s : Fin 512) (h : Fin 768) :
    normOf e g b (ix3 n s h) = lnDiv (fun k => e (ix3 n s k)) (g (ix1 h)) (b (ix1 h)) h := by
  pointwise [normOf, distOf, meanOf, lnDiv, spread, mean]

end Norm

section Lookup

/-- The dimension numbers of a lookup of whole rows of a table of `N` rows, one row per batch and position. -/
abbrev rowDims (N : Nat) (wf : GatherDims.WF ⟨2, ![N, 768]⟩ S64x512x1 S64x512x768 [2] [0] [] [0] [] 2 ![1, 768]) :
    GatherDims ⟨2, ![N, 768]⟩ S64x512x1 S64x512x768 where
  offsetDims := [2]
  collapsedSliceDims := [0]
  operandBatchingDims := []
  startIndicesBatchingDims := []
  startIndexMap := [0]
  indexVectorDim := 2
  sliceSizes := ![1, 768]
  wf := wf

variable {N : Nat} (wf : GatherDims.WF ⟨2, ![N, 768]⟩ S64x512x1 S64x512x768 [2] [0] [] [0] [] 2 ![1, 768])

/-- The gather reads row `r` of the table where the index is `r`. -/
theorem rows_apply (x : FVec Ideal ⟨2, ![N, 768]⟩ .f32) (i : IVec S64x512x1 32) (n : Fin 64) (s : Fin 512) (h : Fin 768)
    (r : Fin N) (hr : (i (ix3 n s 0)).toInt = r.val) : Host.gather (rowDims N wf) x i (ix3 n s h) = x (ix2 r h) := by
  have e0 : (rowDims N wf).start (ix3 n s h) i 0 = r.val := by
    unfold GatherDims.start
    rw [dif_pos (by simp)]
    have hi : (rowDims N wf).siIdx (ix3 n s h) ⟨List.idxOf (0 : Fin 2) (rowDims N wf).startIndexMap,
        List.idxOf_lt_length_iff.2 (by simp)⟩ = ix3 n s 0 := by
      funext b
      fin_cases b <;> exact Fin.ext rfl
    rw [hi, hr]
    show min r.val (N - 1) = r.val
    have := r.isLt
    omega
  have e1 : (rowDims N wf).start (ix3 n s h) i 1 = 0 := by
    unfold GatherDims.start
    rw [dif_neg (by simp)]
  have o0 : (rowDims N wf).offCoord (ix3 n s h) 0 = 0 :=
    GatherDims.offCoord_eq_zero _ _ _ fun hk => ((GatherDims.mem_sKept _ _).1 hk).1 (by simp)
  have o1 : (rowDims N wf).offCoord (ix3 n s h) 1 = h.val := by
    unfold GatherDims.offCoord
    rw [dif_pos ((GatherDims.mem_sKept _ _).2 ⟨by simp, by simp⟩)]
    rfl
  have bz : ∀ a, (rowDims N wf).batchCoord (ix3 n s h) a = 0 := fun a => GatherDims.batchCoord_eq_zero _ _ _ (by simp)
  unfold Host.gather
  refine congrArg x (funext fun a => Fin.ext ?_)
  show (rowDims N wf).start (ix3 n s h) i a + (rowDims N wf).batchCoord (ix3 n s h) a + (rowDims N wf).offCoord (ix3 n s h) a = _
  rw [bz]
  match a with
  | ⟨0, _⟩ => exact (congrArg₂ (fun p q => p + 0 + q) e0 o0).trans rfl
  | ⟨1, _⟩ => exact (congrArg₂ (fun p q => p + 0 + q) e1 o1).trans (Nat.zero_add _)

/-- The reference's lookup: the gathered row where the index lies between 0 and `last`, a fill value elsewhere. -/
abbrev lookup (last : BitVec 32) (x : FVec Ideal ⟨2, ![N, 768]⟩ .f32) (i : IVec S64x512x1 32) : FVec Ideal S64x512x768 .f32 :=
  select (broadcastInDim S64x512x768 ![0, 1] bcast_S64x512_S64x512x768_0_1 (Host.reduce IntOp.andi (andi (cmpi .sge i (broadcastInDim S64x512x1 ![] bcast_S_S64x512x1 (constantI S_ 32 0#32))) (cmpi .sle i (broadcastInDim S64x512x1 ![0, 1, 2] bcast_S1x1x1_S64x512x1_0_1_2 (broadcastInDim S1x1x1 ![2] bcast_S1_S1x1x1_2 (constantI S1 32 last))))) (constantI S_ 1 1#1) reducesTo_S64x512x1_S64x512_d2 h_S_)) (Host.gather (rowDims N wf) x i) (broadcastInDim S64x512x768 ![] bcast_S_S64x512x768 (constant S_ .f32 0x7FC00000#32))

/-- A choice made per batch and position takes the first array where the choosing bit is 1. -/
theorem choose_one (c : IVec S64x512 1) (x y : FVec Ideal S64x512x768 .f32) (n : Fin 64) (s : Fin 512) (h : Fin 768)
    (hc : c (ix2 n s) = 1#1) :
    select (broadcastInDim S64x512x768 ![0, 1] bcast_S64x512_S64x512x768_0_1 c) x y (ix3 n s h) = x (ix3 n s h) := by
  have e : select (broadcastInDim S64x512x768 ![0, 1] bcast_S64x512_S64x512x768_0_1 c) x y (ix3 n s h)
      = Scalar.select (c (ix2 n s)) (x (ix3 n s h)) (y (ix3 n s h)) := by
    pointwise
  rw [e, hc]
  exact if_pos rfl

/-- When every index names a row of the table, the lookup reads that row. -/
theorem lookup_apply (last : BitVec 32) (hlast : last.toInt = (N : Int) - 1) (x : FVec Ideal ⟨2, ![N, 768]⟩ .f32) (i : IVec S64x512x1 32)
    (r : Fin 64 → Fin 512 → Fin N) (hr : ∀ n s, (i (ix3 n s 0)).toInt = (r n s).val) (n : Fin 64) (s : Fin 512) (h : Fin 768) :
    lookup wf last x i (ix3 n s h) = x (ix2 (r n s) h) := by
  refine (choose_one _ _ _ n s h (Host.reduce_andi_one _ _ _ _ _ rfl fun j => ?_)).trans (rows_apply wf x i n s h (r n s) (hr n s))
  have hj : j = ix3 (j 0) (j 1) 0 := by
    funext a
    match a with
    | ⟨0, _⟩ => rfl
    | ⟨1, _⟩ => rfl
    | ⟨2, _⟩ => exact Subsingleton.elim (α := Fin 1) _ _
  have hv : (i j).toInt = (r (j 0) (j 1)).val := by rw [hj]; exact hr _ _
  have hlt := (r (j 0) (j 1)).isLt
  refine IntOp.andi_eq_one.2 ⟨IntOp.cmpi_sge.2 ?_, IntOp.cmpi_sle.2 ?_⟩
  · show (0 : Int) ≤ (i j).toInt
    omega
  · show (i j).toInt ≤ last.toInt
    omega

end Lookup

section Indices

/-- The reference's index array: a negative index has the table's length added. -/
abbrev wrap (len : BitVec 32) (i : IVec S64x512 32) : IVec S64x512x1 32 :=
  broadcastInDim S64x512x1 ![0, 1] bcast_S64x512_S64x512x1_0_1 (select (cmpi .slt i (broadcastInDim S64x512 ![] bcast_S_S64x512 (constantI S_ 32 0#32))) (addi i (broadcastInDim S64x512 ![] bcast_S_S64x512 (constantI S_ 32 len))) i)

/-- An index that is not negative stays. -/
theorem wrap_apply (len : BitVec 32) (i : IVec S64x512 32) (n : Fin 64) (s : Fin 512) (h : 0 ≤ (i (ix2 n s)).toInt) :
    wrap len i (ix3 n s 0) = i (ix2 n s) := by
  have e : wrap len i (ix3 n s 0)
      = Scalar.select (IntOp.cmpi .slt (i (ix2 n s)) 0#32) (IntOp.addi (i (ix2 n s)) len) (i (ix2 n s)) := by
    pointwise [wrap]
  rw [e]
  refine if_neg fun hc => ?_
  have := IntOp.cmpi_slt.1 hc
  have z : (0#32).toInt = 0 := rfl
  omega

/-- The array of positions: 0 to 511 in each batch. -/
abbrev positions : IVec S64x512 32 :=
  broadcastInDim S64x512 ![0, 1] bcast_S1x512_S64x512_0_1 (broadcastInDim S1x512 ![1] bcast_S512_S1x512_1 (iotaInDim S512 32 0))

/-- Its entry at position `s` is `s`. -/
theorem positions_apply (n : Fin 64) (s : Fin 512) : (positions (ix2 n s)).toInt = s.val := by
  have e : positions (ix2 n s) = BitVec.ofNat 32 s.val := by
    pointwise [positions, iotaInDim]
  rw [e, BitVec.toInt_ofNat']
  have := s.isLt
  simp only [Int.bmod]
  omega

end Indices

/-- The last row of the word table. -/
theorem lastWord : (30521#32).toInt = ((30522 : Nat) : Int) - 1 := by decide

/-- The last row of the position table. -/
theorem lastPos : (511#32).toInt = ((512 : Nat) : Int) - 1 := by decide

/-- The last row of the token type table. -/
theorem lastTok : (1#32).toInt = ((2 : Nat) : Int) - 1 := by decide

/-- The sum of three arrays at an index. -/
theorem sum_apply (x y z : FVec Ideal S64x512x768 .f32) (n : Fin 64) (s : Fin 512) (h : Fin 768) :
    addf (addf x y) z (ix3 n s h) = x (ix3 n s h) + y (ix3 n s h) + z (ix3 n s h) := rfl

/-- THE REFERENCE'S RESULT at `(n, s, h)` when every token id is 0 or 1: the layer normalization of the sum of the word
    table's row of the token id, the position table's row `s` and the token type table's row of the token id. -/
theorem result_apply (m : (ℓ : Loc nD τ sig) → Buf (Elt Ideal) ℓ) (c : Dev nD) (ids : IVec S64x512 32)
    (W : FVec Ideal S30522x768 .f32) (P : FVec Ideal S512x768 .f32) (T : FVec Ideal S2x768 .f32) (g b : FVec Ideal S768 .f32)
    (h0 : m ((c.tc : Thread nD τ).loc main_arg0) = ids) (h1 : m ((c.tc : Thread nD τ).loc main_arg1) = W)
    (h2 : m ((c.tc : Thread nD τ).loc main_arg2) = P) (h3 : m ((c.tc : Thread nD τ).loc main_arg3) = T)
    (h4 : m ((c.tc : Thread nD τ).loc main_arg4) = g) (h5 : m ((c.tc : Thread nD τ).loc main_arg5) = b)
    (r : Fin 64 → Fin 512 → Fin 2) (hr : ∀ n s, (ids (ix2 n s)).toInt = (r n s).val) (n : Fin 64) (s : Fin 512) (h : Fin 768) :
    (Value.res_out0 m c : FVec Ideal S64x512x768 .f32) (ix3 n s h)
      = lnDiv (fun k => W (ix2 (⟨(r n s).val, by omega⟩ : Fin 30522) k) + P (ix2 s k) + T (ix2 (r n s) k)) (g (ix1 h)) (b (ix1 h)) h := by
  have e : (Value.res_out0 m c : FVec Ideal S64x512x768 .f32)
      = normOf (addf (addf
          (lookup Facts₀.gather_S30522x768_S64x512x1_S64x512x768_2_0_n_n_0_2_1768_wf 30521#32 W (wrap 30522#32 ids))
          (lookup Facts₀.gather_S512x768_S64x512x1_S64x512x768_2_0_n_n_0_2_1768_wf 511#32 P (wrap 512#32 positions)))
          (lookup Facts₀.gather_S2x768_S64x512x1_S64x512x768_2_0_n_n_0_2_1768_wf 1#32 T (wrap 2#32 ids))) g b := by
    subst h0 h1 h2 h3 h4 h5
    unfold Value.res_out0 Value.res_main_v31
    rfl
  have hw : ∀ (len : BitVec 32) n s, (wrap len ids (ix3 n s 0)).toInt = (r n s).val := fun len n s => by
    rw [wrap_apply len ids n s (by rw [hr]; omega), hr]
  have hp : ∀ (len : BitVec 32) n s, (wrap len positions (ix3 n s 0)).toInt = s.val := fun len n s => by
    rw [wrap_apply len positions n s (by rw [positions_apply]; omega), positions_apply]
  rw [e, normOf_apply]
  refine congrArg (fun x => lnDiv x (g (ix1 h)) (b (ix1 h)) h) (funext fun k => ?_)
  rw [sum_apply, lookup_apply _ _ lastWord W _ (fun n s => ⟨(r n s).val, by omega⟩) (hw _) n s k,
    lookup_apply _ _ lastPos P _ (fun _ s => s) (hp _) n s k, lookup_apply _ _ lastTok T _ r (hw _) n s k]

end Cert.ReferenceIdeal.Hand

end
-- ==== Proof.Precondition.lean ====
/-
  What the precondition says, entry by entry: every token id is 0 or 1, and every entry of gamma and of beta is a real
  number.
-/
module

public import proofs.«01_k».proof.Proof.Gen.Pre_ids_and_affine
public import Idealize.ShloMosaic.Lib.ReduceAll
public import Idealize.ShloMosaic.Lib.Pointwise

@[expose] public section

noncomputable section

namespace Cert.Pre_ids_and_affine.Hand

open Idealize.ShloMosaic Idealize.SL.Sem
open Cert.Pre_ids_and_affine Cert.Pre_ids_and_affine.Gen

/-- A scalar has one index. -/
instance : Subsingleton S_.Idx := ⟨fun a b => funext fun x => x.elim0⟩

/-- The bit pattern of positive infinity. -/
theorem inf_eq : Ideal.ofBits .f32 0x7F800000#32 = ⊤ := by
  simp [Ideal.ofBits, Ideal.ieee]

/-- A number whose absolute value is below infinity is a real number. -/
theorem real_of_abs (x : EReal) (h : Ideal.cmp .olt (max x (-x)) ⊤ = 1#1) : ∃ r : ℝ, x = r := by
  induction x with
  | bot => simp [Ideal.cmp] at h
  | top => simp [Ideal.cmp] at h
  | coe r => exact ⟨r, rfl⟩

/-- A word that is at least 0 and less than 2, read signed, is 0 or 1. -/
theorem zero_or_one (x : BitVec 32) (h0 : IntOp.cmpi .sge x 0#32 = 1#1) (h1 : IntOp.cmpi .slt x 2#32 = 1#1) : x = 0#32 ∨ x = 1#32 := by
  have g0 : (0 : Int) ≤ x.toInt := IntOp.cmpi_sge.1 h0
  have g1 : x.toInt < 2 := IntOp.cmpi_slt.1 h1
  rcases (by omega : x.toInt = 0 ∨ x.toInt = 1) with e | e
  · exact Or.inl (BitVec.eq_of_toInt_eq (by rw [e]; rfl))
  · exact Or.inr (BitVec.eq_of_toInt_eq (by rw [e]; rfl))

/-- THE PRECONDITION, entry by entry. -/
theorem of_pre (ids : IVec S64x512 32) (W : FVec Ideal S30522x768 .f32) (P : FVec Ideal S512x768 .f32)
    (T : FVec Ideal S2x768 .f32) (g b : FVec Ideal S768 .f32) (h : fn (F := Ideal) ids W P T g b = fun _ => 1#1) :
    (∀ i, ids i = 0#32 ∨ ids i = 1#32) ∧ (∀ i, ∃ r : ℝ, g i = r) ∧ ∀ i, ∃ r : ℝ, b i = r := by
  have e := congrFun h (Shape.Idx.first h_S_)
  unfold fn at e
  dsimp only at e
  obtain ⟨ei, ef⟩ := IntOp.andi_eq_one.1 e
  obtain ⟨eg, eb⟩ := IntOp.andi_eq_one.1 ef
  refine ⟨fun i => ?_, fun i => ?_, fun i => ?_⟩
  · obtain ⟨a0, a1⟩ := IntOp.andi_eq_one.1 (Host.reduce_andi_all _ _ _ _ _ ei i)
    exact zero_or_one _ a0 a1
  · refine real_of_abs _ ?_
    rw [← inf_eq]
    exact Host.reduce_andi_all _ _ _ _ _ eg i
  · refine real_of_abs _ ?_
    rw [← inf_eq]
    exact Host.reduce_andi_all _ _ _ _ _ eb i

end Cert.Pre_ids_and_affine.Hand

end
-- ==== Proof.lean ====
/-
  The proof of `Cert.Claim`. The frames are the generated ones. The value claim puts the kernel's result
  (Proof/KernelValue.lean) and the reference's (Proof/RefValue.lean) side by side at an index: the precondition
  (Proof/Precondition.lean) makes the token id there 0 or 1, and the kernel's `first + id * (second - first)` is then the
  first or the second layer normalization.
-/
module

public import proofs.«01_k».proof.Defs
public import proofs.«01_k».proof.Proof.Gen.Kernel.Frame
public import proofs.«01_k».proof.Proof.Gen.KernelIdeal.Value
public import proofs.«01_k».proof.Proof.Gen.Pre_ids_and_affine
public import proofs.«01_k».proof.Proof.Gen.ReferenceIdeal.Run
public import proofs.«01_k».proof.Proof.KernelValue
public import proofs.«01_k».proof.Proof.RefValue
public import proofs.«01_k».proof.Proof.Precondition
public import Idealize.ShloMosaic.Adequacy
public import Idealize.ShloMosaic.Init
public import Idealize.ShloMosaic.Lib.Quiescent

@[expose] public section

noncomputable section

namespace Cert.Proof

open Idealize.ShloMosaic Idealize.SL.Sem Cert.LayerNorm

section Pick

open Cert.KernelIdeal

variable (W : FVec Ideal S30522x768 .f32) (T : FVec Ideal S2x768 .f32) (P : FVec Ideal S512x768 .f32) (g b : FVec Ideal S768 .f32)

/-- The reference's layer normalization of the row of token id `r` is the kernel's. -/
theorem lnDiv_eq_normed (r : Fin 2) (s : Fin 512) (h : Fin 768) :
    lnDiv (fun k => W (ix2 (⟨r.val, by omega⟩ : Fin 30522) k) + P (ix2 s k) + T (ix2 r k)) (g (ix1 h)) (b (ix1 h)) h
      = Hand.normed W T P g b r s h := by
  unfold Hand.normed
  rw [lnMul_eq_lnDiv]
  refine congrArg (fun x => lnDiv x (g (ix1 h)) (b (ix1 h)) h) (funext fun k => ?_)
  exact add_right_comm _ _ _

/-- With gamma and beta real, the first layer normalization plus the token id times the difference of the two is the layer
    normalization of the token id. -/
theorem pick (hg : ∀ i, ∃ x : ℝ, g i = x) (hb : ∀ i, ∃ x : ℝ, b i = x) (r : Fin 2) (s : Fin 512) (h : Fin 768) :
    Hand.normed W T P g b 0 s h + (((r.val : ℤ) : ℝ) : EReal) * (Hand.normed W T P g b 1 s h - Hand.normed W T P g b 0 s h)
      = Hand.normed W T P g b r s h := by
  obtain ⟨g', hg⟩ := hg (ix1 h)
  obtain ⟨b', hb⟩ := hb (ix1 h)
  have real : ∀ q : Fin 2, ∃ x : ℝ, Hand.normed W T P g b q s h = x := fun q => by
    unfold Hand.normed
    rw [hg, hb]
    exact lnMul_real _ _ _ _
  obtain ⟨x, hx⟩ := real 0
  obtain ⟨y, hy⟩ := real 1
  rcases (by omega : r = 0 ∨ r = 1) with rfl | rfl
  · rw [show (((0 : Fin 2).val : ℤ) : ℝ) = 0 by simp]
    exact pick_zero _ _
  · rw [show (((1 : Fin 2).val : ℤ) : ℝ) = 1 by simp, hx, hy]
    exact pick_one _ _

end Pick

/-- The reference runs, leaves its arguments unchanged and every semaphore at zero. -/
theorem ref_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same on the arguments of the value claim. -/
theorem ref_frame_pre : quiescent_ReferenceIdeal_pre_ids_and_affine := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- THE VALUE CLAIM: on arguments the precondition admits, kernel and reference end with the same result. -/
theorem value : algebraic_KernelIdeal_ReferenceIdeal_pre_ids_and_affine := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨a0, a1, a2, a3, a4, a5⟩ := hagree c
  obtain ⟨hi, hg, hb⟩ := Cert.Pre_ids_and_affine.Hand.of_pre _ _ _ _ _ _ (hpre c)
  have hr : ∀ n s, ∃ r : Fin 2, ((m ((c.tc : Thread Cert.KernelIdeal.nD Cert.KernelIdeal.τ).loc Cert.KernelIdeal.main_arg0) :
      IVec Cert.KernelIdeal.S64x512 32) (ix2 n s)).toInt = (r.val : ℤ) := fun n s => by
    rcases hi (ix2 n s) with e | e
    · exact ⟨0, (congrArg BitVec.toInt e).trans (by decide)⟩
    · exact ⟨1, (congrArg BitVec.toInt e).trans (by decide)⟩
  choose r hr using hr
  funext j
  have hj : j = ix3 (j 0) (j 1) (j 2) := by
    funext a
    match a with
    | ⟨0, _⟩ => rfl
    | ⟨1, _⟩ => rfl
    | ⟨2, _⟩ => rfl
  rw [hj]
  refine (Cert.ReferenceIdeal.Hand.result_apply m' c _ _ _ _ _ _ a0 a1 a2 a3 a4 a5 r hr (j 0) (j 1) (j 2)).trans ?_
  refine Eq.trans ?_ (Cert.KernelIdeal.Hand.result_apply m c (j 0) (j 1) (j 2)).symm
  rw [hr (j 0) (j 1)]
  exact (lnDiv_eq_normed _ _ _ _ _ _ _ _).trans (pick _ _ _ _ _ hg hb _ _ _).symm

/-- The certificate's claim. -/
theorem claim : Cert.Claim := ⟨Cert.Kernel.Gen.facts, Cert.KernelIdeal.Gen.facts, Cert.ReferenceIdeal.Gen.facts, Cert.Pre_ids_and_affine.Gen.facts,
  fun m ρ _ => Cert.Kernel.Gen.frame m ρ, fun m ρ _ => Cert.KernelIdeal.Gen.frame m ρ, fun m ρ _ => Cert.KernelIdeal.Gen.frame m ρ,
  ref_frame, ref_frame_pre, (trivial : preserves_Kernel_KernelIdeal), value⟩

end Cert.Proof

end
